-- ==== Defs.lean ====
def Pre_Kernel (m : (ℓ : Loc Cert.Kernel.nD Cert.Kernel.τ Cert.Kernel.sig) → Buf (Elt Bits) ℓ) : Prop :=
  True

def Pre_Kernel_distinct_at_the_cut [hPre_distinct_at_the_cut : Cert.Pre_distinct_at_the_cut.Facts] (m : (ℓ : Loc Cert.Kernel.nD Cert.Kernel.τ Cert.Kernel.sig) → Buf (Elt Bits) ℓ) : Prop :=
  ∀ c : Dev Cert.Kernel.nD,
    (Cert.Pre_distinct_at_the_cut.fn (F := Bits) (m ((c.tc : Thread Cert.Kernel.nD Cert.Kernel.τ).loc Cert.Kernel.main_arg0))) = (fun _ => 1#1)

def Pre_Reference (m : (ℓ : Loc Cert.Reference.nD Cert.Reference.τ Cert.Reference.sig) → Buf (Elt Bits) ℓ) : Prop :=
  True

def Pre_Reference_distinct_at_the_cut [hPre_distinct_at_the_cut : Cert.Pre_distinct_at_the_cut.Facts] (m : (ℓ : Loc Cert.Reference.nD Cert.Reference.τ Cert.Reference.sig) → Buf (Elt Bits) ℓ) : Prop :=
  ∀ c : Dev Cert.Reference.nD,
    (Cert.Pre_distinct_at_the_cut.fn (F := Bits) (m ((c.tc : Thread Cert.Reference.nD Cert.Reference.τ).loc Cert.Reference.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Kernel_pre_distinct_at_the_cut [hKernel : Cert.Kernel.Facts] [hPre_distinct_at_the_cut : Cert.Pre_distinct_at_the_cut.Facts] : Prop :=
  ∀ (m : (ℓ : Loc Cert.Kernel.nD Cert.Kernel.τ Cert.Kernel.sig) → Buf (Elt Bits) ℓ) (g : Dev Cert.Kernel.nD → PrngReg), Pre_Kernel_distinct_at_the_cut m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Reference_pre_distinct_at_the_cut [hReference : Cert.Reference.Facts] [hPre_distinct_at_the_cut : Cert.Pre_distinct_at_the_cut.Facts] : Prop :=
  ∀ (m : (ℓ : Loc Cert.Reference.nD Cert.Reference.τ Cert.Reference.sig) → Buf (Elt Bits) ℓ) (g : Dev Cert.Reference.nD → PrngReg), Pre_Reference_distinct_at_the_cut m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def bitexact_Kernel_Reference_pre_distinct_at_the_cut [hKernel : Cert.Kernel.Facts] [hReference : Cert.Reference.Facts] [hPre_distinct_at_the_cut : Cert.Pre_distinct_at_the_cut.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel_distinct_at_the_cut m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v22) = v0 c
          ∧ r.2.mem ((c.tc : Thread Cert.Reference.nD Cert.Reference.τ).loc Cert.Reference.main_arg0) = m' ((c.tc : Thread Cert.Reference.nD Cert.Reference.τ).loc Cert.Reference.main_arg0))

def Claim : Prop :=
  ∃ (hKernel : Cert.Kernel.Facts) (hReference : Cert.Reference.Facts) (hPre_distinct_at_the_cut : Cert.Pre_distinct_at_the_cut.Facts),
    quiescent_Kernel (hKernel := hKernel)
    ∧ quiescent_Kernel_pre_distinct_at_the_cut (hKernel := hKernel) (hPre_distinct_at_the_cut := hPre_distinct_at_the_cut)
    ∧ quiescent_Reference (hReference := hReference)
    ∧ quiescent_Reference_pre_distinct_at_the_cut (hReference := hReference) (hPre_distinct_at_the_cut := hPre_distinct_at_the_cut)
    ∧ bitexact_Kernel_Reference_pre_distinct_at_the_cut (hKernel := hKernel) (hReference := hReference) (hPre_distinct_at_the_cut := hPre_distinct_at_the_cut)
-- ==== Pre_distinct_at_the_cut.lean ====
abbrev S16384x2048 : Shape := ⟨2, ![16384, 2048]⟩
abbrev S2048x16384 : Shape := ⟨2, ![2048, 16384]⟩
abbrev S2048x257 : Shape := ⟨2, ![2048, 257]⟩
abbrev S2048x1 : Shape := ⟨2, ![2048, 1]⟩
abbrev S2048 : Shape := ⟨1, ![2048]⟩
abbrev S_ : Shape := ⟨0, ![]⟩

class Facts : Prop where
  transposes_S16384x2048_S2048x16384_1_0 : S16384x2048.Transposes [1, 0] S2048x16384
  sliceFits_S2048x16384_S2048x257 : S2048x16384.Slices (fun _ => 0) S2048x257
  slices_S2048x257_S2048x1_0_255 : S2048x257.Slices ![0, 255] S2048x1
  shapeCasts_S2048x1_S2048 : S2048x1.ShapeCasts S2048
  slices_S2048x257_S2048x1_0_256 : S2048x257.Slices ![0, 256] S2048x1
  bcast_S_S2048 : S_.BroadcastsInDim S2048 (![] : Fin 0 → Fin S2048.rank)

variable [Facts]

def fn {F : FTy → Type} [BitOps F] (main_arg0 : FVec F S16384x2048 .f32) : IVec S2048 1 :=
  let main_v0 : FVec F S2048x16384 .f32 := (transpose S2048x16384 [1, 0] · transposes_S16384x2048_S2048x16384_1_0) main_arg0
  let main_values : FVec F S2048x257 .f32 := (fun x => (Host.topK S2048x257 1 (FloatOps.cmpfTotal .gt) x sliceFits_S2048x16384_S2048x257).1) main_v0
  let main_indices : IVec S2048x257 32 := (fun x => (Host.topK S2048x257 1 (FloatOps.cmpfTotal .gt) x sliceFits_S2048x16384_S2048x257).2) main_v0
  let main_v1 : IVec S2048x257 32 := bitcastToInt main_values
  let main_v2 : IVec S2048x1 32 := (extractStridedSlice S2048x1 ![0, 255] · slices_S2048x257_S2048x1_0_255) main_v1
  let main_v3 : IVec S2048 32 := shapeCast S2048 main_v2 shapeCasts_S2048x1_S2048
  let main_v4 : IVec S2048x1 32 := (extractStridedSlice S2048x1 ![0, 256] · slices_S2048x257_S2048x1_0_256) main_v1
  let main_v5 : IVec S2048 32 := shapeCast S2048 main_v4 shapeCasts_S2048x1_S2048
  let main_v6 : IVec S2048 1 := cmpi .ne main_v3 main_v5
  let main_v7 : IVec S2048x1 32 := (extractStridedSlice S2048x1 ![0, 256] · slices_S2048x257_S2048x1_0_256) main_v1
  let main_v8 : IVec S2048 32 := shapeCast S2048 main_v7 shapeCasts_S2048x1_S2048
  let main_c : IVec S_ 32 := constantI S_ 32 0#32
  let main_v9 : IVec S2048 32 := broadcastInDim S2048 ![] bcast_S_S2048 main_c
  let main_v10 : IVec S2048 1 := cmpi .eq main_v8 main_v9
  let main_v11 : IVec S2048 1 := ori main_v6 main_v10
  main_v11
-- ==== Kernel.lean ====
abbrev S16384x2048 : Shape := ⟨2, ![16384, 2048]⟩
abbrev S16384x128 : Shape := ⟨2, ![16384, 128]⟩
abbrev S1x128 : Shape := ⟨2, ![1, 128]⟩
abbrev S128 : Shape := ⟨1, ![128]⟩

abbrev nBuf : Space → Nat
  | .hbm => 2
  | .vmem => 5
  | .smem => 0
  | _ => 0

abbrev bufTy : (tb : Table) → Fin (tcTables nBuf tb) → BufTy
  | .hbm, ⟨0, _⟩ => ⟨S16384x2048, .f32⟩
  | .hbm, ⟨1, _⟩ => ⟨S16384x2048, .f32⟩
  | .local _ .vmem, ⟨0, _⟩ => ⟨S16384x128, .f32⟩
  | .local _ .vmem, ⟨1, _⟩ => ⟨S16384x128, .f32⟩
  | .local _ .vmem, ⟨2, _⟩ => ⟨S16384x128, .f32⟩
  | .local _ .vmem, ⟨3, _⟩ => ⟨S16384x128, .f32⟩
  | .local _ .vmem, ⟨4, _⟩ => ⟨S16384x128, .i32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![16], ![false]⟩

@[reducible] def k0_t1_loop : Scf.Loop 32 :=
  let c0_i32_3 : BitVec 32 := 0#32
  let c32_i32 : BitVec 32 := 32#32
  let v11 : BitVec 32 := Scalar.addi c0_i32_3 c32_i32
  let c1_i32 : BitVec 32 := 1#32
  ⟨c0_i32_3, v11, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S16384x2048 : Shape := ⟨2, ![16384, 2048]⟩
abbrev S2048x16384 : Shape := ⟨2, ![2048, 16384]⟩
abbrev S2048x256 : Shape := ⟨2, ![2048, 256]⟩
abbrev S2048 : Shape := ⟨1, ![2048]⟩
abbrev S1x2048 : Shape := ⟨2, ![1, 2048]⟩
abbrev S_ : Shape := ⟨0, ![]⟩
abbrev S256x2048 : Shape := ⟨2, ![256, 2048]⟩
abbrev S256x2048x1 : Shape := ⟨3, ![256, 2048, 1]⟩
abbrev S256x2048x2 : Shape := ⟨3, ![256, 2048, 2]⟩

abbrev nBuf : Space → Nat
  | .hbm => 33
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x16384, .f32⟩
  | .hbm, ⟨2, _⟩ => ⟨S2048x256, .f32⟩
  | .hbm, ⟨3, _⟩ => ⟨S2048x256, .i32⟩
  | .hbm, ⟨4, _⟩ => ⟨S2048, .i32⟩
  | .hbm, ⟨5, _⟩ => ⟨S1x2048, .i32⟩
  | .hbm, ⟨6, _⟩ => ⟨S_, .i1⟩
  | .hbm, ⟨7, _⟩ => ⟨S16384x2048, .i1⟩
  | .hbm, ⟨8, _⟩ => ⟨S256x2048, .i32⟩
  | .hbm, ⟨9, _⟩ => ⟨S_, .i32⟩
  | .hbm, ⟨10, _⟩ => ⟨S256x2048, .i32⟩
  | .hbm, ⟨11, _⟩ => ⟨S256x2048, .i1⟩
  | .hbm, ⟨12, _⟩ => ⟨S_, .i32⟩
  | .hbm, ⟨13, _⟩ => ⟨S256x2048, .i32⟩
  | .hbm, ⟨14, _⟩ => ⟨S256x2048, .i32⟩
  | .hbm, ⟨15, _⟩ => ⟨S256x2048, .i32⟩
  | .hbm, ⟨16, _⟩ => ⟨S_, .i32⟩
  | .hbm, ⟨17, _⟩ => ⟨S1x2048, .i32⟩
  | .hbm, ⟨18, _⟩ => ⟨S1x2048, .i1⟩
  | .hbm, ⟨19, _⟩ => ⟨S_, .i32⟩
  | .hbm, ⟨20, _⟩ => ⟨S1x2048, .i32⟩
  | .hbm, ⟨21, _⟩ => ⟨S1x2048, .i32⟩
  | .hbm, ⟨22, _⟩ => ⟨S1x2048, .i32⟩
  | .hbm, ⟨23, _⟩ => ⟨S256x2048, .i32⟩
  | .hbm, ⟨24, _⟩ => ⟨S256x2048x1, .i32⟩
  | .hbm, ⟨25, _⟩ => ⟨S256x2048x1, .i32⟩
  | .hbm, ⟨26, _⟩ => ⟨S256x2048x2, .i32⟩
  | .hbm, ⟨27, _⟩ => ⟨S_, .i1⟩
  | .hbm, ⟨28, _⟩ => ⟨S256x2048, .i1⟩
  | .hbm, ⟨29, _⟩ => ⟨S16384x2048, .i1⟩
  | .hbm, ⟨30, _⟩ => ⟨S_, .f32⟩
  | .hbm, ⟨31, _⟩ => ⟨S16384x2048, .f32⟩
  | .hbm, ⟨32, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_values : Ref sig .tc := ⟨.hbm, 2, rfl⟩
abbrev main_indices : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Search.lean ====
/-
  The bitwise search for a column's threshold, as arithmetic on words (no program here).

  The search starts at the least signed word and, from the top bit down, flips one bit of its candidate, keeping the
  flip when at least `K` keys are at or above the flipped word. `search_spec`: after all 32 bits the word found has at
  least `K` keys at or above it and fewer than `K` keys strictly above it, so it is the `K`-th largest key.
-/
module

public import Mathlib.Data.Fintype.Card
public import Mathlib.Data.Finset.Card
public import Mathlib.Tactic.Ring
public import Mathlib.Tactic.Linarith

@[expose] public section

namespace Cert.Proof.Search

/-- How many of the keys are, read signed, at or above the integer `z`. -/
def above {n : ℕ} (key : Fin n → BitVec 32) (z : ℤ) : ℕ :=
  (Finset.univ.filter fun k => z ≤ (key k).toInt).card

/-- One step of the search at bit `31 - i`: flip the bit, and keep the flip when `K` keys are at or above the result. -/
def step {n : ℕ} (key : Fin n → BitVec 32) (K i : ℕ) (t : BitVec 32) : BitVec 32 :=
  if K ≤ above key (t ^^^ (1#32 <<< (31 - i))).toInt then t ^^^ (1#32 <<< (31 - i)) else t

/-- The candidate before step `i`, from the least signed word. -/
def search {n : ℕ} (key : Fin n → BitVec 32) (K : ℕ) : ℕ → BitVec 32
  | 0 => 0x80000000#32
  | i + 1 => step key K i (search key K i)

/-- Flipping bit `j` of a number that is a multiple of `2 ^ (j + 1)` adds `2 ^ j`. -/
theorem xor_two_pow_of_multiple (a j : ℕ) : (2 ^ (j + 1) * a) ^^^ 2 ^ j = 2 ^ (j + 1) * a + 2 ^ j := by
  have hlt : 2 ^ j < 2 ^ (j + 1) := Nat.pow_lt_pow_right (by omega) (by omega)
  refine Nat.eq_of_testBit_eq fun b => ?_
  rw [Nat.testBit_xor, Nat.testBit_two_pow_mul_add _ hlt, Nat.testBit_two_pow_mul]
  by_cases hb : b < j + 1
  · have hb' : ¬ b ≥ j + 1 := by omega
    simp [hb, hb']
  · have h1 : b ≥ j + 1 := by omega
    have h2 : j ≠ b := by omega
    simp [hb, h1, Nat.testBit_two_pow, h2]

/-- A word read signed, in terms of the word with its top bit flipped read unsigned. -/
theorem toInt_eq_toNat_flip (t : BitVec 32) : t.toInt = ((t ^^^ 0x80000000#32).toNat : ℤ) - 2 ^ 31 := by
  have e : t ^^^ 0x80000000#32 = t + 0x80000000#32 := by
    refine BitVec.eq_of_toNat_eq ?_
    have ht := t.isLt
    rw [BitVec.toNat_xor, BitVec.toNat_add]
    show t.toNat ^^^ 2 ^ 31 = (t.toNat + 2 ^ 31) % 2 ^ 32
    have hd : t.toNat = 2 ^ 31 * (t.toNat / 2 ^ 31) + t.toNat % 2 ^ 31 := (Nat.div_add_mod _ _).symm
    have hm : t.toNat % 2 ^ 31 < 2 ^ 31 := Nat.mod_lt _ (by norm_num)
    have hq : t.toNat / 2 ^ 31 < 2 := by omega
    generalize t.toNat % 2 ^ 31 = r at hd hm
    generalize t.toNat / 2 ^ 31 = q at hd hq
    have key : ∀ q < 2, q ^^^ 1 = 1 - q := by decide
    have hx : (2 ^ 31 * q + r) ^^^ 2 ^ 31 = 2 ^ 31 * (q ^^^ 1) + r := by
      refine Nat.eq_of_testBit_eq fun b => ?_
      have h1 : Nat.testBit (2 ^ 31) b = (2 ^ 31 * 1 + 0).testBit b := by norm_num
      rw [Nat.testBit_xor, h1, Nat.testBit_two_pow_mul_add _ hm, Nat.testBit_two_pow_mul_add _ (by norm_num : 0 < 2 ^ 31),
        Nat.testBit_two_pow_mul_add _ hm]
      split <;> simp [Nat.testBit_xor]
    rw [hd, hx, key q hq]
    rcases (by omega : q = 0 ∨ q = 1) with rfl | rfl <;> omega
  have ht := t.isLt
  have h31 : (0x80000000#32).toNat = 2147483648 := by decide
  rw [e, BitVec.toNat_add, BitVec.toInt_eq_toNat_cond, h31]
  split <;> omega

/-- Flipping bit `j` of a word that lies a multiple of `2 ^ (j + 1)` above the least signed word raises it by `2 ^ j`. -/
theorem toInt_flip (t : BitVec 32) (j : ℕ) (hj : j < 32) (a : ℕ) (ht : t.toInt = 2 ^ (j + 1) * (a : ℤ) - 2 ^ 31) :
    (t ^^^ (1#32 <<< j)).toInt = t.toInt + 2 ^ j := by
  have hb : (1#32 <<< j).toNat = 2 ^ j := by
    rw [BitVec.toNat_shiftLeft]
    show 1 <<< j % 2 ^ 32 = 2 ^ j
    rw [Nat.shiftLeft_eq, one_mul]
    exact Nat.mod_eq_of_lt (Nat.pow_lt_pow_right (by omega) hj)
  have hu : (t ^^^ 0x80000000#32).toNat = 2 ^ (j + 1) * a := by
    have h := toInt_eq_toNat_flip t
    have h' : ((t ^^^ 0x80000000#32).toNat : ℤ) = ((2 ^ (j + 1) * a : ℕ) : ℤ) := by push_cast; linarith
    exact_mod_cast h'
  have hc : (t ^^^ (1#32 <<< j)) ^^^ 0x80000000#32 = (t ^^^ 0x80000000#32) ^^^ (1#32 <<< j) := by
    rw [BitVec.xor_assoc, BitVec.xor_comm (1#32 <<< j), ← BitVec.xor_assoc]
  rw [toInt_eq_toNat_flip (t ^^^ (1#32 <<< j)), hc, BitVec.toNat_xor, hu, hb, xor_two_pow_of_multiple]
  push_cast
  linarith

/-- The invariant: before step `i` the candidate lies a multiple of `2 ^ (32 - i)` above the least signed word, at least
    `K` keys are at or above it, and fewer than `K` are at or above it plus `2 ^ (32 - i)`. -/
theorem search_inv {n : ℕ} (key : Fin n → BitVec 32) (K : ℕ) (hK : 0 < K) (hn : K ≤ n) : ∀ i ≤ 32,
    (∃ a : ℕ, (search key K i).toInt = 2 ^ (32 - i) * (a : ℤ) - 2 ^ 31) ∧ K ≤ above key (search key K i).toInt
      ∧ above key ((search key K i).toInt + 2 ^ (32 - i)) < K := by
  intro i
  induction i with
  | zero =>
    intro _
    have h0 : (search key K 0).toInt = -2 ^ 31 := by show (0x80000000#32).toInt = _; decide
    refine ⟨⟨0, by rw [h0]; norm_num⟩, ?_, ?_⟩
    · rw [h0]
      unfold above
      rw [Finset.filter_true_of_mem fun k _ => ?_, Finset.card_univ, Fintype.card_fin]
      · exact hn
      · have := BitVec.le_toInt (key k); norm_num at this ⊢; exact this
    · rw [h0]
      unfold above
      rw [Finset.filter_false_of_mem fun k _ => ?_, Finset.card_empty]
      · exact hK
      · have := BitVec.toInt_lt (x := key k); norm_num at this ⊢; exact this
  | succ i ih =>
    intro hi
    obtain ⟨⟨a, ha⟩, hge, hlt⟩ := ih (by omega)
    have e1 : 32 - i = (31 - i) + 1 := by omega
    have e2 : 32 - (i + 1) = 31 - i := by omega
    rw [e1] at ha hlt
    rw [e2]
    have hf := toInt_flip _ (31 - i) (by omega) a ha
    have hp : (2 : ℤ) ^ (31 - i + 1) = 2 * 2 ^ (31 - i) := by rw [pow_succ]; ring
    rw [hp] at ha hlt
    show (∃ a : ℕ, (step key K i (search key K i)).toInt = _) ∧ K ≤ above key (step key K i (search key K i)).toInt
      ∧ above key ((step key K i (search key K i)).toInt + _) < K
    unfold step
    split
    · rename_i hk
      refine ⟨⟨2 * a + 1, ?_⟩, hk, ?_⟩
      · rw [hf, ha]; push_cast; ring
      · rw [hf, add_assoc, ← two_mul]; exact hlt
    · rename_i hk
      refine ⟨⟨2 * a, ?_⟩, hge, ?_⟩
      · rw [ha]; push_cast; ring
      · rw [hf] at hk; omega

/-- The word found has at least `K` keys at or above it, and fewer than `K` keys strictly above it. -/
theorem search_spec {n : ℕ} (key : Fin n → BitVec 32) (K : ℕ) (hK : 0 < K) (hn : K ≤ n) :
    K ≤ above key (search key K 32).toInt ∧ above key ((search key K 32).toInt + 1) < K := by
  obtain ⟨_, h1, h2⟩ := search_inv key K hK hn 32 le_rfl
  exact ⟨h1, by simpa using h2⟩

end Cert.Proof.Search
-- ==== Proof.TopKeys.lean ====
/-
  The first `K` positions of a stable descending sort against the threshold the bitwise search finds (no program here).

  `kept_eq`: for a column of words sorted by the total order of floats, descending, whose `K`-th and `(K+1)`-th sorted
  words differ or whose `(K+1)`-th is the zero word, keeping the words whose sort key is at or above the threshold and
  keeping the words at the first `K` sorted positions give the same column once the words not kept are replaced by zero.
-/
module

public import proofs.«01_k».proof.Proof.Search
public import Mathlib.Order.Interval.Finset.Fin
public import Idealize.ShloMosaic.Lib.SortFacts
public import Idealize.ShloMosaic.Lib.SortKey

@[expose] public section

namespace Cert.Proof.TopKeys

open Idealize.ShloMosaic Cert.Proof.Search

/-- "Sorts strictly before": the signed key is greater. -/
def before {n : ℕ} (key : Fin n → BitVec 32) (a b : Fin n) : Bool :=
  IntOp.cmpi .sgt (key a) (key b) == 1#1

/-- One row sorts strictly before another exactly when its signed key is the greater one. -/
theorem before_iff {n : ℕ} (key : Fin n → BitVec 32) (a b : Fin n) :
    before key a b = true ↔ (key b).toInt < (key a).toInt := by
  have bit : ∀ b : Bool, (BitVec.ofBool b == 1#1) = true ↔ b = true := by decide
  show (BitVec.ofBool ((key b).slt (key a)) == 1#1) = true ↔ _
  rw [bit, BitVec.slt_iff_toInt_lt]

/-- One row does not sort strictly before another exactly when its signed key is at most the other's. -/
theorem before_eq_false {n : ℕ} (key : Fin n → BitVec 32) (a b : Fin n) :
    before key a b = false ↔ (key a).toInt ≤ (key b).toInt := by
  rw [← not_lt, ← before_iff, Bool.not_eq_true]

/-- The keys read along the sorted positions do not increase. -/
theorem sorted_antitone {n : ℕ} (key : Fin n → BitVec 32) (i j : Fin n) (hij : i ≤ j) :
    (key (sortedFrom (before key) j)).toInt ≤ (key (sortedFrom (before key) i)).toInt := by
  rcases hij.eq_or_lt with rfl | h
  · exact le_rfl
  · rw [← before_eq_false]
    refine sortedFrom_noInversion (before key) (before key) (fun a b hab => ?_) (fun _ _ h => h) (fun a b c hab hbc => ?_) i j h
    · rw [before_iff] at hab; rw [before_eq_false]; exact hab.le
    · rw [before_eq_false] at hab hbc ⊢; exact hab.trans hbc

/-- How many keys are at or above `z`, counted along the sorted positions. -/
theorem above_eq_sorted {n : ℕ} (key : Fin n → BitVec 32) (z : ℤ) :
    above key z = (Finset.univ.filter fun k => z ≤ (key (sortedFrom (before key) k)).toInt).card := by
  unfold above
  refine (Finset.card_bij (fun k _ => sortedFrom (before key) k) (fun k hk => ?_)
    (fun a _ b _ h => sortedFrom_injective _ h) (fun b hb => ?_)).symm
  · simpa using hk
  · obtain ⟨k, rfl⟩ := sortedFrom_surjective (before key) b
    exact ⟨k, by simpa using hb, rfl⟩

/-- A sorted position before the `K`-th has a key at or above any `z` that at least `K` keys reach. -/
theorem le_of_lt {n : ℕ} (key : Fin n → BitVec 32) (K : ℕ) (z : ℤ) (h : K ≤ above key z) (i : Fin n) (hi : i.val < K) :
    z ≤ (key (sortedFrom (before key) i)).toInt := by
  by_contra hlt
  rw [above_eq_sorted] at h
  have hsub : (Finset.univ.filter fun k => z ≤ (key (sortedFrom (before key) k)).toInt) ⊆ Finset.Iio i := by
    intro k hk
    simp only [Finset.mem_filter, Finset.mem_univ, true_and, Finset.mem_Iio] at hk ⊢
    by_contra hki
    exact hlt (hk.trans (sorted_antitone key i k (not_lt.1 hki)))
  have hc := Finset.card_le_card hsub
  rw [Fin.card_Iio] at hc
  omega

/-- A sorted position whose key is at or above `z`, reached by fewer than `K` keys, is before the `K`-th but one. -/
theorem lt_of_le {n : ℕ} (key : Fin n → BitVec 32) (K : ℕ) (z : ℤ) (h : above key z < K) (i : Fin n)
    (hi : z ≤ (key (sortedFrom (before key) i)).toInt) : i.val + 1 < K := by
  rw [above_eq_sorted] at h
  have hsub : Finset.Iic i ⊆ Finset.univ.filter fun k => z ≤ (key (sortedFrom (before key) k)).toInt := by
    intro k hk
    simp only [Finset.mem_filter, Finset.mem_univ, true_and, Finset.mem_Iic] at hk ⊢
    exact hi.trans (sorted_antitone key k i hk)
  have hc := Finset.card_le_card hsub
  rw [Fin.card_Iic] at hc
  omega

/-- The two ways of keeping agree word by word: at or above the threshold the search finds, or among the first `K` sorted
    positions, when the words at sorted positions `p` (the `K`-th) and `q` (the next) differ or the latter is zero. -/
theorem kept_eq {n : ℕ} (w : Fin n → BitVec 32) (K : ℕ) (p q : Fin n) (hp : p.val + 1 = K) (hq : q.val = K)
    (hcut : w (sortedFrom (before fun k => sortableKey (w k)) p) ≠ w (sortedFrom (before fun k => sortableKey (w k)) q)
      ∨ w (sortedFrom (before fun k => sortableKey (w k)) q) = 0#32) (r : Fin n) :
    (if (search (fun k => sortableKey (w k)) K 32).toInt ≤ (sortableKey (w r)).toInt then w r else 0#32)
      = if ∃ k : Fin n, k.val < K ∧ sortedFrom (before fun k => sortableKey (w k)) k = r then w r else 0#32 := by
  obtain ⟨hge, hlt⟩ := search_spec (fun k => sortableKey (w k)) K (by omega) (by omega)
  generalize hkey : (fun k => sortableKey (w k)) = key at hge hlt hcut ⊢
  have hkr : ∀ k, sortableKey (w k) = key k := fun k => congrFun hkey k
  have hinj : ∀ a b, key a = key b → w a = w b := fun a b h => by
    rw [← hkr, ← hkr] at h; exact sortableKey_injective h
  generalize (search key K 32).toInt = T at hge hlt ⊢
  rw [hkr]
  by_cases hex : ∃ k : Fin n, k.val < K ∧ sortedFrom (before key) k = r
  · rw [if_pos hex]
    obtain ⟨k, hk, rfl⟩ := hex
    rw [if_pos (le_of_lt key K T hge k hk)]
  · rw [if_neg hex]
    split
    · rename_i hT
      obtain ⟨j, rfl⟩ := sortedFrom_surjective (before key) r
      have hj : K ≤ j.val := by
        by_contra hc
        exact hex ⟨j, by omega, rfl⟩
      have up : ∀ i : Fin n, K ≤ i.val + 1 → (key (sortedFrom (before key) i)).toInt ≤ T := by
        intro i hi
        by_contra hc
        have := lt_of_le key K (T + 1) hlt i (by omega)
        omega
      have ej : (key (sortedFrom (before key) j)).toInt = T := le_antisymm (up j (by omega)) hT
      have eq' : (key (sortedFrom (before key) q)).toInt = T :=
        le_antisymm (up q (by omega)) (ej ▸ sorted_antitone key q j (by rw [Fin.le_def]; omega))
      have ep : (key (sortedFrom (before key) p)).toInt = T :=
        le_antisymm (up p (by omega)) (le_of_lt key K T hge p (by omega))
      rcases hcut with hne | h0
      · exact absurd (hinj _ _ (BitVec.eq_of_toInt_eq (ep.trans eq'.symm))) hne
      · rw [hinj _ _ (BitVec.eq_of_toInt_eq (ej.trans eq'.symm)), h0]
    · rfl

end Cert.Proof.TopKeys
-- ==== Proof.KernelValue.lean ====
/-
  What the kernel leaves in its result array, as a function of its argument array.

  The body writes its block's sort keys to the scratch buffer, runs the 32 trips of the threshold search over them, and
  writes the block with every entry below its column's threshold replaced by zero. `out_apply` reads that at one entry, by
  the search of Search.lean; `final` puts the 16 blocks together to one statement about the whole array.
-/
module

public import proofs.«01_k».proof.Proof.TopKeys
public import proofs.«01_k».proof.Proof.Gen.Kernel.Value
public import Idealize.ShloMosaic.Lib.VecWindow
public import Idealize.ShloMosaic.Lib.IndicatorCount
public import Idealize.ShloMosaic.Lib.Pointwise

@[expose] public section

set_option maxRecDepth 16384

noncomputable section

namespace Cert.Proof.KernelValue

open Idealize.ShloMosaic Idealize.ShloMosaic.TcCoe Idealize.SL.Sem
open Cert.Kernel Cert.Kernel.Gen

variable {F : FTy → Type} [BitOps F]

/-- The loop runs 32 trips. -/
theorem trips_eq : k0_t1_loop.trips = 32 := by decide +kernel

/-- The thresholds before trip `k` as the body computes them from its block: from the least word, trip by trip. -/
def thr (x : Vec F S16384x128 .f32) : ℕ → IVec S1x128 32
  | 0 => k0_pay2
  | k + 1 => if h : k < k0_t1_loop.trips then k0_pay3 (F := F) ⟨k, h⟩ (thr x k) (k0_pay1 x) else thr x k

/-- The thresholds after a trip are the trip's payload of those before it. -/
theorem thr_succ (x : Vec F S16384x128 .f32) (k : Fin k0_t1_loop.trips) :
    thr x (k.val + 1) = k0_pay3 (F := F) k (thr x k.val) (k0_pay1 x) := by
  rw [thr, dif_pos k.isLt]

/-- One trip's yield is the payload of what the scratch buffer holds. -/
theorem trip_eq (𝒱 : Variants) (c : Dev nD) (bd : Option 𝒱.V) (i : grid0.Coords) (arg1 : Memref sig .tc .vmem S16384x128 .f32)
    (harg1 : arg1.IsWhole) (arg2 : Memref sig .tc .vmem S16384x128 .f32) (harg2 : arg2.IsWhole)
    (arg3 : Memref sig .tc .vmem S16384x128 .i32) (harg3 : arg3.IsWhole) (X : BufTy.Contents (Elt F) arg3.view.ty)
    (k : Fin k0_t1_loop.trips) (acc : IVec S1x128 32) :
    tripR_k0_t1 (F := F) 𝒱 c bd i arg1 harg1 arg2 harg2 arg3 harg3 X k acc
      = k0_pay3 (F := F) k acc (arg3.view.read (Elt F) X) := by
  unfold tripR_k0_t1 trip_k0_t1
  dsimp only
  exact congrArg (k0_pay3 (F := F) k acc) (View.readAt_full arg3.view X _)

/-- The value the loop carries, when the scratch buffer holds the block's sort keys. -/
theorem st_eq (𝒱 : Variants) (c : Dev nD) (bd : Option 𝒱.V) (i : grid0.Coords) (arg1 : Memref sig .tc .vmem S16384x128 .f32)
    (harg1 : arg1.IsWhole) (arg2 : Memref sig .tc .vmem S16384x128 .f32) (harg2 : arg2.IsWhole)
    (arg3 : Memref sig .tc .vmem S16384x128 .i32) (harg3 : arg3.IsWhole) (X : BufTy.Contents (Elt F) arg3.view.ty)
    (x0 : Vec F S16384x128 .f32) (hX : arg3.view.read (Elt F) X = k0_pay1 x0) (k : ℕ) (hk : k ≤ k0_t1_loop.trips) :
    st_k0_t1 (F := F) 𝒱 c bd i arg1 harg1 arg2 harg2 arg3 harg3 X k0_pay2 k = thr x0 k := by
  induction k with
  | zero => rfl
  | succ k ih =>
    rw [st_k0_t1_succ (F := F) 𝒱 c bd i arg1 harg1 arg2 harg2 arg3 harg3 X k0_pay2 ⟨k, hk⟩, trip_eq, hX, ih (by omega)]
    exact (thr_succ x0 ⟨k, hk⟩).symm

/-- What the body leaves in the output's staging buffer: its last payload, of the last thresholds, the block's sort keys and
    the block. -/
theorem out_eq (c : Dev nD) (i : grid0.Coords) (arg1 : Memref sig .tc .vmem S16384x128 .f32) (harg1 : arg1.IsWhole)
    (arg2 : Memref sig .tc .vmem S16384x128 .f32) (harg2 : arg2.IsWhole) (arg3 : Memref sig .tc .vmem S16384x128 .i32)
    (harg3 : arg3.IsWhole) (x0 : Vec F S16384x128 .f32) :
    out0_A_1 c i arg1 harg1 arg2 harg2 arg3 harg3 x0 = k0_pay4 (thr x0 32) (k0_pay1 x0) x0 := by
  have hload : View.readAt (Elt F) arg1.view (Rect.unit ![0, 0] ![16384, 128] inb_S16384x128_S16384x128_0_0).toLoadRect
      (harg1.unread x0) = x0 := (View.readAt_full arg1.view _ _ ).trans (harg1.read_unread x0)
  have hn : Scf.trips (0#32) (Scalar.addi 0#32 32#32) 1#32 = 32 := by decide +kernel
  unfold out0_A_1 kernelRun0_A
  dsimp only
  unfold kernelRun0_A.sl.HS0_1 kernelRun0_A.sl.v13
  dsimp only
  unfold kernelRun0_A.sl.HS0_1
  rw [hload, hn, st_eq Variants.none c none i arg1 harg1 arg2 harg2 arg3 harg3 _ x0 (View.read_writes_full arg3.view _ _ _ _) 32 trips_eq.ge]
  rw [View.readCov_full arg3.view _ _ _ []]
  exact View.read_writes_full VO0_1 _ _ _ []

/-- The block's sort keys, word by word. -/
theorem pay1_apply (x : Vec Bits S16384x128 .f32) (r : Fin 16384) (l : Fin 128) :
    k0_pay1 x (ix2 r l) = sortableKey (x (ix2 r l)) := by
  pointwise [k0_pay1]
  show Scalar.select (IntOp.cmpi .slt (x (ix2 r l)) 0#32) (x (ix2 r l) ^^^ 2147483647#32) (x (ix2 r l)) = sortableKey (x (ix2 r l))
  generalize x (ix2 r l) = w
  show (if BitVec.ofBool (BitVec.slt w 0#32) = 1 then w ^^^ 2147483647#32 else w) = sortableKey w
  rw [BitVec.slt_zero_eq_msb]
  cases h : BitVec.msb (n := 32) w
  · rw [sortableKey_of_msb_false w h]; rfl
  · rw [sortableKey_of_msb_true w h]; rfl

/-- The bit a trip flips. -/
theorem bit_eq (k : Fin k0_t1_loop.trips) :
    Scalar.shli 1#32 (Scalar.subi 31#32 (Scf.iv 0#32 1#32 k)) = 1#32 <<< (31 - k.val) := by
  revert k
  decide +kernel

/-- The signed comparison of two words, as one of integers. -/
theorem sge_iff (a b : BitVec 32) : IntOp.cmpi .sge a b = 1#1 ↔ b.toInt ≤ a.toInt := by
  show BitVec.ofBool (decide (b.toInt ≤ a.toInt)) = 1#1 ↔ _
  by_cases h : b.toInt ≤ a.toInt <;> simp [h]

/-- A count over a column is at most the number of its rows. -/
theorem count_le (key : Fin 16384 → BitVec 32) (z : ℤ) : Search.above key z ≤ 16384 := by
  unfold Search.above
  exact (Finset.card_le_univ _).trans_eq (Fintype.card_fin _)

/-- One trip's payload in column `l`. -/
theorem pay3_apply (k : Fin k0_t1_loop.trips) (t : IVec S1x128 32) (v : IVec S16384x128 32) (l : Fin 128) :
    k0_pay3 (F := Bits) k t v (ix2 0 l) = Search.step (fun r => v (ix2 r l)) 256 k.val (t (ix2 0 l)) := by
  have hp := bit_eq k
  pointwise [k0_pay3]
  rw [hp, IndicatorCount.fold_addi_setWidth_eq_card]
  simp only [sge_iff]
  have hle := count_le (fun r : Fin 16384 => v (ix2 r l)) (t (ix2 0 l) ^^^ (1#32 <<< (31 - k.val))).toInt
  show Scalar.select (IntOp.cmpi .sge (BitVec.ofNat 32 (Search.above (fun r : Fin 16384 => v (ix2 r l))
      (t (ix2 0 l) ^^^ (1#32 <<< (31 - k.val))).toInt)) 256#32) (t (ix2 0 l) ^^^ (1#32 <<< (31 - k.val))) (t (ix2 0 l)) = _
  unfold Search.step Scalar.select
  refine if_congr ((sge_iff _ _).trans ?_) rfl rfl
  generalize Search.above (fun r : Fin 16384 => v (ix2 r l)) (t (ix2 0 l) ^^^ (1#32 <<< (31 - k.val))).toInt = n at hle
  rw [show (256#32).toInt = 256 by decide, BitVec.toInt_ofNat', Int.bmod_eq_of_le (by omega) (by omega)]
  omega

/-- The thresholds in column `l` are the ones of the bitwise search over the column's sort keys. -/
theorem thr_apply (x : Vec Bits S16384x128 .f32) (l : Fin 128) (k : ℕ) (hk : k ≤ k0_t1_loop.trips) :
    thr x k (ix2 0 l) = Search.search (fun r => sortableKey (x (ix2 r l))) 256 k := by
  induction k with
  | zero => rfl
  | succ k ih =>
    rw [thr_succ x ⟨k, hk⟩, pay3_apply, ih (by omega)]
    simp only [pay1_apply, Search.search]

/-- The last payload, word by word. -/
theorem pay4_apply (t : IVec S1x128 32) (v : IVec S16384x128 32) (x : Vec Bits S16384x128 .f32) (r : Fin 16384) (l : Fin 128) :
    k0_pay4 (F := Bits) t v x (ix2 r l) = if (t (ix2 0 l)).toInt ≤ (v (ix2 r l)).toInt then x (ix2 r l) else 0#32 := by
  pointwise [k0_pay4]
  exact if_congr (sge_iff _ _) rfl rfl

/-- The word the body leaves at an entry of its block: the entry where its sort key is at or above the threshold the search
    found for its column, zero elsewhere. -/
theorem out_apply (c : Dev nD) (i : grid0.Coords) (arg1 : Memref sig .tc .vmem S16384x128 .f32) (harg1 : arg1.IsWhole)
    (arg2 : Memref sig .tc .vmem S16384x128 .f32) (harg2 : arg2.IsWhole) (arg3 : Memref sig .tc .vmem S16384x128 .i32)
    (harg3 : arg3.IsWhole) (x0 : Vec Bits S16384x128 .f32) (r : Fin 16384) (l : Fin 128) :
    out0_A_1 c i arg1 harg1 arg2 harg2 arg3 harg3 x0 (ix2 r l)
      = if (Search.search (fun k => sortableKey (x0 (ix2 k l))) 256 32).toInt ≤ (sortableKey (x0 (ix2 r l))).toInt
        then x0 (ix2 r l) else 0#32 := by
  rw [out_eq, pay4_apply, thr_apply x0 l 32 trips_eq.ge, pay1_apply]

/-! ## The blocks of the array -/

/-- The array's column at lane `l` of block `t`. -/
def colAt (t : Fin cfg0.N) (l : Fin 128) : Fin 2048 :=
  ⟨128 * t.val + l.val, by have h : cfg0.N = 16 := N_0; have := t.isLt; omega⟩

/-- Where the blocks of the argument and of the result lie: point `t`'s is every row of the columns from `128 * t`. -/
theorem index_closed : ∀ t : Fin cfg0.N, win0_0.index t 0 * win0_0.size 0 = 0 ∧ win0_0.index t 1 * win0_0.size 1 = 128 * t.val
    ∧ win0_1.index t 0 * win0_1.size 0 = 0 ∧ win0_1.index t 1 * win0_1.size 1 = 128 * t.val
    ∧ win0_1.xsize (grid0.coords t) 0 = 16384 ∧ win0_1.xsize (grid0.coords t) 1 = 128 :=
  (by decide +kernel : ∀ t : Fin grid0.N, win0_0.index t 0 * win0_0.size 0 = 0 ∧ win0_0.index t 1 * win0_0.size 1 = 128 * t.val
    ∧ win0_1.index t 0 * win0_1.size 0 = 0 ∧ win0_1.index t 1 * win0_1.size 1 = 128 * t.val
    ∧ win0_1.xsize (grid0.coords t) 0 = 16384 ∧ win0_1.xsize (grid0.coords t) 1 = 128)

/-- An array read through block `t` of the argument. -/
theorem read_blk0 (t : Fin cfg0.N) (a : FVec Bits S16384x2048 .f32) (r : Fin 16384) (l : Fin 128) :
    (win0_0.blk t).view.read (Elt Bits) a (ix2 r l) = a (ix2 r (colAt t l)) := by
  obtain ⟨e0, e1, -⟩ := index_closed t
  refine congrArg a (funext fun d => Fin.ext ?_)
  match d with
  | ⟨0, _⟩ => show win0_0.index t 0 * win0_0.size 0 + 1 * r.val = r.val
              rw [e0]; omega
  | ⟨1, _⟩ => show win0_0.index t 1 * win0_0.size 1 + 1 * l.val = 128 * t.val + l.val
              rw [e1]; omega

/-- An array read through block `t` of the result. -/
theorem read_blk1 (t : Fin cfg0.N) (a : FVec Bits S16384x2048 .f32) (r : Fin 16384) (l : Fin 128) :
    (win0_1.blk t).view.read (Elt Bits) a (ix2 r l) = a (ix2 r (colAt t l)) := by
  obtain ⟨-, -, e0, e1, -⟩ := index_closed t
  refine congrArg a (funext fun d => Fin.ext ?_)
  match d with
  | ⟨0, _⟩ => show win0_1.index t 0 * win0_1.size 0 + 1 * r.val = r.val
              rw [e0]; omega
  | ⟨1, _⟩ => show win0_1.index t 1 * win0_1.size 1 + 1 * l.val = 128 * t.val + l.val
              rw [e1]; omega

/-- An index is in block `t` of the result when its column is one of the block's. -/
theorem mem_blk (t : Fin cfg0.N) (i : S16384x2048.Idx) :
    i ∈ ((cfg0.win 1).blk t).view.set ↔ 128 * t.val ≤ (i 1 : Nat) ∧ (i 1 : Nat) < 128 * t.val + 128 := by
  show i ∈ ((View.whole main_v0).slice (win0_1.rect t)).set ↔ _
  rw [View.set_slice_whole, Rect.mem_set_unit]
  have h0 : (i 0 : Nat) < 16384 := (i 0).isLt
  obtain ⟨-, -, e0, e1, x0, x1⟩ := index_closed t
  refine ⟨fun h => ?_, fun h a => ?_⟩
  · have : win0_1.index t 1 * win0_1.size 1 ≤ (i 1 : Nat)
        ∧ (i 1 : Nat) < win0_1.index t 1 * win0_1.size 1 + win0_1.xsize (grid0.coords t) 1 := h 1
    rw [e1, x1] at this; exact this
  · match a with
    | ⟨0, _⟩ => show win0_1.index t 0 * win0_1.size 0 ≤ (i 0 : Nat)
                  ∧ (i 0 : Nat) < win0_1.index t 0 * win0_1.size 0 + win0_1.xsize (grid0.coords t) 0
                rw [e0, x0]; omega
    | ⟨1, _⟩ => show win0_1.index t 1 * win0_1.size 1 ≤ (i 1 : Nat)
                  ∧ (i 1 : Nat) < win0_1.index t 1 * win0_1.size 1 + win0_1.xsize (grid0.coords t) 1
                rw [e1, x1]; exact h

/-- Every index of the result is in the block of some point. -/
theorem cover (i : S16384x2048.Idx) : ∃ t : Fin cfg0.N, (cfg0.win 1).flush t = true ∧ i ∈ ((cfg0.win 1).blk t).view.set := by
  have h1 : (i 1 : Nat) < 2048 := (i 1).isLt
  have hN : cfg0.N = 16 := N_0
  refine ⟨⟨(i 1 : Nat) / 128, by omega⟩, flush0_1 _, ?_⟩
  rw [mem_blk]
  dsimp only
  omega

/-- What the kernel leaves of an array: each column's entries whose sort key is at or above the column's threshold. -/
def kept (x : FVec Bits S16384x2048 .f32) : FVec Bits S16384x2048 .f32 := fun i =>
  if (Search.search (fun k : Fin 16384 => sortableKey (x (ix2 k (i 1)))) 256 32).toInt ≤ (sortableKey (x i)).toInt then x i else 0#32

variable (m : (ℓ : Loc nD τ sig) → Buf (Elt Bits) ℓ)

/-- What point `t` writes back is block `t` of `kept` of the argument. -/
theorem flushed_eq (c : Dev nD) (t : Fin cfg0.N) :
    (dats m 0 c).flushed 1 t = (win0_1.blk t).view.read (Elt Bits) (kept (m ((c : Thread nD τ).loc main_arg0))) := by
  rw [Cert.Kernel.Value.flushed1_A]
  funext j
  obtain ⟨r, l, rfl⟩ : ∃ (r : Fin 16384) (l : Fin 128), j = ix2 r l := ⟨j 0, j 1, eq_ix2 j⟩
  have hx : ∀ k, iblk m c 0 t (ix2 k l) = m ((c : Thread nD τ).loc main_arg0) (ix2 k (colAt t l)) := fun k => by
    unfold iblk
    rw [V_main_arg0]
    exact read_blk0 t _ k l
  rw [read_blk1]
  refine (out_apply c (grid0.coords t) (ms0_0 t) (hs0_0 t) (ms0_1 t) (hs0_1 t) scM0_0 (Memref.isWhole_whole _) (iblk m c 0 t) r l).trans ?_
  simp only [hx]
  rfl

/-- The result array after the kernel's run is `kept` of the argument. -/
theorem final (c : Dev nD) : (dats m 0 c).arrAt 1 cfg0.N = kept (m ((c : Thread nD τ).loc main_arg0)) :=
  (dats m 0 c).arrAt_eq_of_cover 1 _ (fun t _ => flushed_eq m c t) cover

end Cert.Proof.KernelValue

end
-- ==== Proof.RefValue.lean ====
/-
  What the reference leaves at one entry, and what the precondition says of one column.

  A column's 256 greatest entries are the rows at the first 256 positions of its stable descending sort; the reference
  scatters a mask at those rows and selects by it (`result_apply`). The precondition compares the words at sorted
  positions 255 and 256 (`cut_apply`).
-/
module

public import proofs.«01_k».proof.Proof.TopKeys
public import proofs.«01_k».proof.Pre_distinct_at_the_cut
public import proofs.«01_k».proof.Proof.Gen.Reference.Run
public import Idealize.ShloMosaic.Lib.Routing.OpsPair
public import Idealize.ShloMosaic.Lib.Routing.OpsSet
public import Idealize.ShloMosaic.Lib.Pipeline.Value
public import Idealize.ShloMosaic.Lib.Pointwise

@[expose] public section

set_option maxRecDepth 16384

noncomputable section

namespace Cert.Proof.RefValue

open Idealize.ShloMosaic Idealize.ShloMosaic.TcCoe Idealize.ShloMosaic.Routing
open Cert.Reference Cert.Reference.Gen Cert.Proof.TopKeys

/-- Column `c` of an array of words. -/
def col (x : FVec Bits S16384x2048 .f32) (c : Fin 2048) (r : Fin 16384) : BitVec 32 := x (ix2 r c)

/-- The sorting permutation of column `c`: the row at each position of its stable descending sort. -/
def sorted (x : FVec Bits S16384x2048 .f32) (c : Fin 2048) : Fin 16384 → Fin 16384 :=
  sortedFrom (before fun r => sortableKey (col x c r))

/-- The order the sort uses along a row of the transposed array is `before` on the sort keys of the column. -/
theorem order_eq (x : FVec Bits S16384x2048 .f32) (c : Fin 2048) (h : S16384x2048.Transposes [1, 0] S2048x16384) :
    (fun k k' : Fin 16384 => (FloatOps.cmpfTotal (F := Bits) (φ := .f32) .gt
        (transpose S2048x16384 [1, 0] x h (ix2 c k)) (transpose S2048x16384 [1, 0] x h (ix2 c k')) == 1#1))
      = before fun r => sortableKey (col x c r) := by
  funext k k'
  pointwise
  rw [cmpfTotal_f32_eq_cmpi_sortableKey]
  rfl

/-- Replacing the second coordinate. -/
theorem along_ix2 {C N : ℕ} (c : Fin C) (k k' : Fin N) :
    Shape.Idx.along (s := ⟨2, ![C, N]⟩) (ix2 c k) 1 k' = ix2 c k' := by
  funext a
  match a with
  | ⟨0, _⟩ => rfl
  | ⟨1, _⟩ => rfl

/-- A two-operand sort along the second axis at `(c, k)`: both operands at the row `c` position the sort puts at `k`. -/
theorem sort2_apply {C N : ℕ} {α β : Type} (cmp : α × β → α × β → BitVec 1) (x : (⟨2, ![C, N]⟩ : Shape).Idx → α)
    (y : (⟨2, ![C, N]⟩ : Shape).Idx → β) (c : Fin C) (k : Fin N) :
    (Host.sort2 ⟨2, ![C, N]⟩ 1 cmp x y).1 (ix2 c k)
        = x (ix2 c (sortedFrom (fun a b : Fin N => cmp (x (ix2 c a), y (ix2 c a)) (x (ix2 c b), y (ix2 c b)) == 1#1) k))
      ∧ (Host.sort2 ⟨2, ![C, N]⟩ 1 cmp x y).2 (ix2 c k)
        = y (ix2 c (sortedFrom (fun a b : Fin N => cmp (x (ix2 c a), y (ix2 c a)) (x (ix2 c b), y (ix2 c b)) == 1#1) k)) := by
  constructor
  · show x ((ix2 c k).along 1 (sortedFrom (fun a b : Fin N => cmp (x ((ix2 c k).along 1 a), y ((ix2 c k).along 1 a))
      (x ((ix2 c k).along 1 b), y ((ix2 c k).along 1 b)) == 1#1) k)) = _
    simp only [along_ix2]
    exact congrArg x (along_ix2 ..)
  · show y ((ix2 c k).along 1 (sortedFrom (fun a b : Fin N => cmp (x ((ix2 c k).along 1 a), y ((ix2 c k).along 1 a))
      (x ((ix2 c k).along 1 b), y ((ix2 c k).along 1 b)) == 1#1) k)) = _
    simp only [along_ix2]
    exact congrArg y (along_ix2 ..)

/-- The values and positions of the `K` greatest entries of row `c`, at place `k`. -/
theorem topK_apply {K : ℕ} (x : FVec Bits S16384x2048 .f32) (h : S16384x2048.Transposes [1, 0] S2048x16384)
    (hs : S2048x16384.Slices (fun _ => 0) ⟨2, ![2048, K]⟩) (c : Fin 2048) (k : Fin K) (hk : k.val < 16384) :
    (Host.topK ⟨2, ![2048, K]⟩ 1 (FloatOps.cmpfTotal (F := Bits) (φ := .f32) .gt) (transpose S2048x16384 [1, 0] x h) hs).1 (ix2 c k)
        = col x c (sorted x c ⟨k.val, hk⟩)
      ∧ (Host.topK ⟨2, ![2048, K]⟩ 1 (FloatOps.cmpfTotal (F := Bits) (φ := .f32) .gt) (transpose S2048x16384 [1, 0] x h) hs).2 (ix2 c k)
        = BitVec.ofNat 32 (sorted x c ⟨k.val, hk⟩).val := by
  have e : ∀ α (v : S2048x16384.Idx → α), extractStridedSlice ⟨2, ![2048, K]⟩ (fun _ => 0) v hs (ix2 c k) = v (ix2 c ⟨k.val, hk⟩) :=
    fun α v => extractStridedSlice_apply _ v hs _ _ (fun a => by
      match a with
      | ⟨0, _⟩ => exact (Nat.zero_add _).symm
      | ⟨1, _⟩ => exact (Nat.zero_add _).symm)
  unfold Host.topK
  dsimp only
  rw [e, e, (sort2_apply _ _ _ _ _).1, (sort2_apply _ _ _ _ _).2]
  dsimp only
  rw [order_eq]
  constructor
  · pointwise
    rfl
  · rfl

/-- The reference's result as its operations compose it from the argument. -/
def result (x : FVec Bits S16384x2048 .f32) : FVec Bits S16384x2048 .f32 :=
  select (Host.scatter scatter_S16384x2048_S256x2048x2_S256x2048_n_01_01_2 (fun _ b => b) (broadcastInDim S16384x2048 ![] bcast_S_S16384x2048 (constantI S_ 1 0#1)) (concatenate S256x2048x2 2 [⟨S256x2048x1, (broadcastInDim S256x2048x1 ![0, 1] bcast_S256x2048_S256x2048x1_0_1 (select (cmpi .slt (transpose S256x2048 [1, 0] ((Host.topK S2048x256 1 (FloatOps.cmpfTotal .gt) (transpose S2048x16384 [1, 0] x transposes_S16384x2048_S2048x16384_1_0) sliceFits_S2048x16384_S2048x256).2) transposes_S2048x256_S256x2048_1_0) (broadcastInDim S256x2048 ![] bcast_S_S256x2048 (constantI S_ 32 0#32))) (addi (transpose S256x2048 [1, 0] ((Host.topK S2048x256 1 (FloatOps.cmpfTotal .gt) (transpose S2048x16384 [1, 0] x transposes_S16384x2048_S2048x16384_1_0) sliceFits_S2048x16384_S2048x256).2) transposes_S2048x256_S256x2048_1_0) (broadcastInDim S256x2048 ![] bcast_S_S256x2048 (constantI S_ 32 16384#32))) (transpose S256x2048 [1, 0] ((Host.topK S2048x256 1 (FloatOps.cmpfTotal .gt) (transpose S2048x16384 [1, 0] x transposes_S16384x2048_S2048x16384_1_0) sliceFits_S2048x16384_S2048x256).2) transposes_S2048x256_S256x2048_1_0)))⟩, ⟨S256x2048x1, (broadcastInDim S256x2048x1 ![0, 1] bcast_S256x2048_S256x2048x1_0_1 (broadcastInDim S256x2048 ![0, 1] bcast_S1x2048_S256x2048_0_1 (select (cmpi .slt (broadcastInDim S1x2048 ![1] bcast_S2048_S1x2048_1 (iotaInDim S2048 32 0)) (broadcastInDim S1x2048 ![] bcast_S_S1x2048 (constantI S_ 32 0#32))) (addi (broadcastInDim S1x2048 ![1] bcast_S2048_S1x2048_1 (iotaInDim S2048 32 0)) (broadcastInDim S1x2048 ![] bcast_S_S1x2048 (constantI S_ 32 2048#32))) (broadcastInDim S1x2048 ![1] bcast_S2048_S1x2048_1 (iotaInDim S2048 32 0)))))⟩] concatenates_S256x2048x1_S256x2048x1_S256x2048x2_d2) (broadcastInDim S256x2048 ![] bcast_S_S256x2048 (constantI S_ 1 1#1))) x (broadcastInDim S16384x2048 ![] bcast_S_S16384x2048 (constant S_ .f32 0x00000000#32))

/-- The index words the reference scatters at, as its operations compose them. -/
def idx (x : FVec Bits S16384x2048 .f32) : IVec S256x2048x2 32 :=
  concatenate S256x2048x2 2 [⟨S256x2048x1, (broadcastInDim S256x2048x1 ![0, 1] bcast_S256x2048_S256x2048x1_0_1 (select (cmpi .slt (transpose S256x2048 [1, 0] ((Host.topK S2048x256 1 (FloatOps.cmpfTotal .gt) (transpose S2048x16384 [1, 0] x transposes_S16384x2048_S2048x16384_1_0) sliceFits_S2048x16384_S2048x256).2) transposes_S2048x256_S256x2048_1_0) (broadcastInDim S256x2048 ![] bcast_S_S256x2048 (constantI S_ 32 0#32))) (addi (transpose S256x2048 [1, 0] ((Host.topK S2048x256 1 (FloatOps.cmpfTotal .gt) (transpose S2048x16384 [1, 0] x transposes_S16384x2048_S2048x16384_1_0) sliceFits_S2048x16384_S2048x256).2) transposes_S2048x256_S256x2048_1_0) (broadcastInDim S256x2048 ![] bcast_S_S256x2048 (constantI S_ 32 16384#32))) (transpose S256x2048 [1, 0] ((Host.topK S2048x256 1 (FloatOps.cmpfTotal .gt) (transpose S2048x16384 [1, 0] x transposes_S16384x2048_S2048x16384_1_0) sliceFits_S2048x16384_S2048x256).2) transposes_S2048x256_S256x2048_1_0)))⟩, ⟨S256x2048x1, (broadcastInDim S256x2048x1 ![0, 1] bcast_S256x2048_S256x2048x1_0_1 (broadcastInDim S256x2048 ![0, 1] bcast_S1x2048_S256x2048_0_1 (select (cmpi .slt (broadcastInDim S1x2048 ![1] bcast_S2048_S1x2048_1 (iotaInDim S2048 32 0)) (broadcastInDim S1x2048 ![] bcast_S_S1x2048 (constantI S_ 32 0#32))) (addi (broadcastInDim S1x2048 ![1] bcast_S2048_S1x2048_1 (iotaInDim S2048 32 0)) (broadcastInDim S1x2048 ![] bcast_S_S1x2048 (constantI S_ 32 2048#32))) (broadcastInDim S1x2048 ![1] bcast_S2048_S1x2048_1 (iotaInDim S2048 32 0)))))⟩] concatenates_S256x2048x1_S256x2048x1_S256x2048x2_d2

/-- The reference's result with its index words named: the argument where the scattered mask is set, zero elsewhere. -/
theorem result_eq (x : FVec Bits S16384x2048 .f32) : result x = select (Host.scatter scatter_S16384x2048_S256x2048x2_S256x2048_n_01_01_2 (fun _ b => b) (broadcastInDim S16384x2048 ![] bcast_S_S16384x2048 (constantI S_ 1 0#1)) (idx x) (broadcastInDim S256x2048 ![] bcast_S_S256x2048 (constantI S_ 1 1#1))) x (broadcastInDim S16384x2048 ![] bcast_S_S16384x2048 (constant S_ .f32 0x00000000#32)) := rfl

/-- The index words of update `(k, c)`: the row at position `k` of column `c`'s sort, and the column. -/
theorem idx_apply (x : FVec Bits S16384x2048 .f32) (k : Fin 256) (c : Fin 2048) :
    idx x (ix3 k c 0) = BitVec.ofNat 32 (sorted x c ⟨k.val, by omega⟩).val ∧ idx x (ix3 k c 1) = BitVec.ofNat 32 c.val := by
  have small : ∀ n, n < 16384 → (BitVec.ofNat 32 n).toNat < 2 ^ (32 - 1) := fun n hn => by
    rw [BitVec.toNat_ofNat, Nat.mod_eq_of_lt (by omega)]; omega
  constructor
  · pointwise [idx]
    rw [(topK_apply x _ _ c k (by omega)).2]
    exact wrap_of_lt _ _ (small _ (sorted x c _).isLt)
  · pointwise [idx]
    exact wrap_of_lt _ _ (small _ (by omega))

/-- Update `(k, c')` of the scatter lands at `(r, c)` exactly when it is of column `c` and row `r` is at sorted position `k`. -/
theorem lands_iff (x : FVec Bits S16384x2048 .f32) (k : Fin 256) (c' : Fin 2048) (r : Fin 16384) (c : Fin 2048) :
    scatter_S16384x2048_S256x2048x2_S256x2048_n_01_01_2.resultIdx? (ix2 k c') (idx x) = some (ix2 r c)
      ↔ sorted x c' ⟨k.val, by omega⟩ = r ∧ c' = c := by
  refine (scatter_lands2 _ rfl rfl rfl (idx x) k c' r c).trans ?_
  have e1 := (idx_apply x k c').1
  have e2 := (idx_apply x k c').2
  have small : ∀ n, n < 16384 → (BitVec.ofNat 32 n).toInt = n := fun n hn => StableHlo.Predicate.toInt_ofNat_small _ (by omega)
  refine (and_congr (Eq.congr_left ((congrArg BitVec.toInt e1).trans (small _ (sorted x c' _).isLt)))
    (Eq.congr_left ((congrArg BitVec.toInt e2).trans (small _ (by omega))))).trans ?_
  rw [Int.natCast_inj, Int.natCast_inj, Fin.val_inj, Fin.val_inj]

/-- The scattered mask at `(r, c)`: set when the row is among the first 256 sorted positions of the column. -/
theorem mask_apply (x : FVec Bits S16384x2048 .f32) (r : Fin 16384) (c : Fin 2048) :
    Host.scatter scatter_S16384x2048_S256x2048x2_S256x2048_n_01_01_2 (fun _ b => b)
        (broadcastInDim S16384x2048 ![] bcast_S_S16384x2048 (constantI S_ 1 0#1)) (idx x)
        (broadcastInDim S256x2048 ![] bcast_S_S256x2048 (constantI S_ 1 1#1)) (ix2 r c)
      = if ∃ k : Fin 16384, k.val < 256 ∧ sorted x c k = r then 1#1 else 0#1 := by
  by_cases h : ∃ k : Fin 16384, k.val < 256 ∧ sorted x c k = r
  · rw [if_pos h]
    obtain ⟨k, hk, rfl⟩ := h
    exact scatter_set_hit _ _ _ _ _ 1#1 (fun _ _ => rfl) (ix2 (⟨k.val, hk⟩ : Fin 256) c) ((lands_iff x _ c _ c).2 ⟨rfl, rfl⟩)
  · rw [if_neg h]
    refine scatter_set_miss _ _ _ _ _ fun k hk => ?_
    obtain ⟨k0, k1, rfl⟩ : ∃ (k0 : Fin 256) (k1 : Fin 2048), k = ix2 k0 k1 := ⟨k 0, k 1, eq_ix2 k⟩
    obtain ⟨hk, hc⟩ := (lands_iff x k0 k1 r c).1 hk
    rw [hc] at hk
    exact h ⟨_, k0.isLt, hk⟩

/-- The reference's result at `(r, c)`: the entry when its row is among the first 256 sorted positions of its column, else
    the zero word. -/
theorem result_apply (x : FVec Bits S16384x2048 .f32) (r : Fin 16384) (c : Fin 2048) :
    result x (ix2 r c) = if ∃ k : Fin 16384, k.val < 256 ∧ sorted x c k = r then col x c r else 0#32 := by
  rw [result_eq]
  pointwise
  rw [mask_apply]
  split <;> rfl

/-- The precondition's comparison of two words, decided. -/
theorem words (a b : BitVec 32) (h : IntOp.ori (IntOp.cmpi .ne a b) (IntOp.cmpi .eq b 0#32) = 1#1) : a ≠ b ∨ b = 0#32 := by
  have bit : ∀ p q : Bool, BitVec.ofBool p ||| BitVec.ofBool q = 1#1 → p = true ∨ q = true := by decide
  rcases bit (a != b) (b == 0#32) h with h | h
  · exact Or.inl (by simpa using h)
  · exact Or.inr (by simpa using h)

/-- The precondition, read at column `c`: the words at sorted positions 255 and 256 differ, or the latter is the zero word. -/
theorem cut_apply [Cert.Pre_distinct_at_the_cut.Facts] (x : FVec Bits S16384x2048 .f32)
    (h : Cert.Pre_distinct_at_the_cut.fn (F := Bits) x = fun _ => 1#1) (c : Fin 2048) :
    col x c (sorted x c 255) ≠ col x c (sorted x c 256) ∨ col x c (sorted x c 256) = 0#32 := by
  have hc := congrFun h (ix1 c)
  pointwise [Cert.Pre_distinct_at_the_cut.fn] at hc
  rw [(topK_apply x _ _ c 255 (by decide)).1, (topK_apply x _ _ c 256 (by decide)).1] at hc
  exact words _ _ hc

end Cert.Proof.RefValue

end
-- ==== Proof.lean ====
/-
  The proof of the claim about the kernel and its reference.

  Both programs run and leave their argument as it was, with every semaphore counter back at zero. Under the precondition
  that the 256th and 257th greatest entries of each column differ as words, or are both the word zero, they end with the
  same words: the kernel keeps the entries whose sort key is at or above the threshold its search finds
  (Proof/KernelValue.lean), the reference the entries at the first 256 positions of the column's sort
  (Proof/RefValue.lean), and these are the same entries (Proof/TopKeys.lean).
-/
module

public import proofs.«01_k».proof.Defs
public import proofs.«01_k».proof.Proof.KernelValue
public import proofs.«01_k».proof.Proof.RefValue
public import proofs.«01_k».proof.Proof.Gen.Kernel.Frame
public import proofs.«01_k».proof.Proof.Gen.Kernel.Value
public import proofs.«01_k».proof.Proof.Gen.Reference.Run
public import proofs.«01_k».proof.Proof.Gen.Pre_distinct_at_the_cut
public import Idealize.ShloMosaic.Lib.Quiescent

@[expose] public section

set_option maxRecDepth 16384

noncomputable section

namespace Cert.Proof

open Idealize.ShloMosaic Idealize.ShloMosaic.TcCoe Idealize.SL.Sem

/-- Under the precondition, what the kernel leaves of an array is what the reference computes from it. -/
theorem kept_eq_result [Cert.Pre_distinct_at_the_cut.Facts] (x : FVec Bits Cert.Reference.S16384x2048 .f32)
    (h : Cert.Pre_distinct_at_the_cut.fn (F := Bits) x = fun _ => 1#1) : KernelValue.kept x = RefValue.result x := by
  funext j
  obtain ⟨r, c, rfl⟩ : ∃ (r : Fin 16384) (c : Fin 2048), j = ix2 r c := ⟨j 0, j 1, eq_ix2 j⟩
  rw [RefValue.result_apply]
  have cut := RefValue.cut_apply x h c
  unfold RefValue.sorted at cut ⊢
  have key := TopKeys.kept_eq (fun k => RefValue.col x c k) 256 255 256 (by decide) (by decide) cut r
  have left : KernelValue.kept x (ix2 r c) = if (Search.search (fun k : Fin 16384 => sortableKey (RefValue.col x c k)) 256 32).toInt
      ≤ (sortableKey (RefValue.col x c r)).toInt then RefValue.col x c r else 0#32 := rfl
  rw [left]
  by_cases hk : ∃ k : Fin 16384, k.val < 256 ∧ sortedFrom (TopKeys.before fun k => sortableKey (RefValue.col x c k)) k = r
  · rw [if_pos hk] at key ⊢
    exact key
  · rw [if_neg hk] at key ⊢
    exact key

/-- The reference runs, leaves its argument as it was, and ends with every semaphore counter at zero. -/
theorem reference_quiescent
    (m : (ℓ : Loc Cert.Reference.nD Cert.Reference.τ Cert.Reference.sig) → Buf (Elt Bits) ℓ)
    (g : Dev Cert.Reference.nD → PrngReg) :
    θ_run (Cert.Reference.defs (F := Bits)) (onTc (τ := Cert.Reference.τ) (Cert.Reference.main (F := Bits))) ⟨m, fun _ => 0, g⟩
      (fun r => (∀ c : Dev Cert.Reference.nD, r.2.mem ((c : Thread Cert.Reference.nD Cert.Reference.τ).loc Cert.Reference.main_arg0)
        = m ((c : Thread Cert.Reference.nD Cert.Reference.τ).loc Cert.Reference.main_arg0)) ∧ r.2.sem = fun _ => 0) :=
  (θ_run Cert.Reference.defs _ _).mono (fun r h => ⟨fun c => (h c).2, sem_eq_zero_of_no_sems (by decide) r.2⟩)
    (Cert.Reference.Value.run (F := Bits) m g)

/-- The kernel and the reference, from the same argument and under the precondition, end with the same words. -/
theorem bitexact : Cert.bitexact_Kernel_Reference_pre_distinct_at_the_cut (hKernel := Cert.Kernel.Gen.facts)
    (hReference := Cert.Reference.Gen.facts) (hPre_distinct_at_the_cut := Cert.Pre_distinct_at_the_cut.Gen.facts) := by
  intro m g m' g' hpre hm
  refine ⟨fun c => RefValue.result (m ((c : Thread Cert.Kernel.nD Cert.Kernel.τ).loc Cert.Kernel.main_arg0)), ?_, ?_⟩
  · refine (θ_run Cert.Kernel.defs _ _).mono (fun r h c => ⟨?_, (h c).2⟩) (Cert.Kernel.Value.run_blocks (F := Bits) m g)
    exact ((h c).1.trans (KernelValue.final m c)).trans (kept_eq_result _ (hpre c))
  · refine (θ_run Cert.Reference.defs _ _).mono (fun r h c => ⟨?_, (h c).2⟩) (Cert.Reference.Value.run (F := Bits) m' g')
    refine (h c).1.trans ?_
    rw [hm c]
    rfl

/-- The claim: both programs' frames, with and without the precondition, and the equality of their results under it. -/
theorem claim : Cert.Claim :=
  ⟨Cert.Kernel.Gen.facts, Cert.Reference.Gen.facts, Cert.Pre_distinct_at_the_cut.Gen.facts,
    fun m g _ => Cert.Kernel.Gen.frame m g, fun m g _ => Cert.Kernel.Gen.frame m g,
    fun m g _ => reference_quiescent m g, fun m g _ => reference_quiescent m g, bitexact⟩

end Cert.Proof

end
